-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v2) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S8192x1024 : Shape := ⟨2, ![8192, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference.lean ====
abbrev S8192x1024 : Shape := ⟨2, ![8192, 1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i1⟩
  | .hbm, ⟨6, _⟩ => ⟨S_, .i32⟩
  | .hbm, ⟨7, _⟩ => ⟨S8192, .i32⟩
  | .hbm, ⟨8, _⟩ => ⟨S8192, .i32⟩
  | .hbm, ⟨9, _⟩ => ⟨S8192, .i32⟩
  | .hbm, ⟨10, _⟩ => ⟨S8192x1, .i32⟩
  | .hbm, ⟨11, _⟩ => ⟨S1, .i32⟩
  | .hbm, ⟨12, _⟩ => ⟨S_, .i32⟩
  | .hbm, ⟨13, _⟩ => ⟨S8192x1, .i32⟩
  | .hbm, ⟨14, _⟩ => ⟨S8192x1, .i1⟩
  | .hbm, ⟨15, _⟩ => ⟨S1x1, .i32⟩
  | .hbm, ⟨16, _⟩ => ⟨S8192x1, .i32⟩
  | .hbm, ⟨17, _⟩ => ⟨S8192x1, .i1⟩
  | .hbm, ⟨18, _⟩ => ⟨S8192x1, .i1⟩
  | .hbm, ⟨19, _⟩ => ⟨S_, .i1⟩
  | .hbm, ⟨20, _⟩ => ⟨S8192, .i1⟩
  | .hbm, ⟨21, _⟩ => ⟨S8192x1024, .f32⟩
  | .hbm, ⟨22, _⟩ => ⟨S8192x1024, .i1⟩
  | .hbm, ⟨23, _⟩ => ⟨S_, .f32⟩
  | .hbm, ⟨24, _⟩ => ⟨S8192x1024, .f32⟩
  | .hbm, ⟨25, _⟩ => ⟨S8192x1024, .f32⟩
  | .hbm, ⟨26, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Take.Row.lean ====
/- The lookup of rows: `stablehlo.gather` of whole rows of a table `[N, C]` at a column of row numbers `[B, 1]`, read at
   an index. Written for every extent, element type and word width. -/
module

public import Idealize.ShloMosaic.Lib.ValueIdxCore

@[expose] public section

namespace Cert.Proof.Take

open Idealize.ShloMosaic Idealize.ShloMosaic.ValueIdx

/-- The dimension numbers of `jnp.take(table, rows, axis=0)`: the slices are whole rows, the table's row axis is the
    one the row numbers select, and the result's second axis runs along the row. -/
abbrev rowDims (N C B : Nat) (wf : GatherDims.WF ⟨2, ![N, C]⟩ ⟨2, ![B, 1]⟩ ⟨2, ![B, C]⟩ [1] [0] [] [0] [] 1 ![1, C]) :
    GatherDims ⟨2, ![N, C]⟩ ⟨2, ![B, 1]⟩ ⟨2, ![B, C]⟩ :=
  { offsetDims := [1], collapsedSliceDims := [0], operandBatchingDims := [], startIndicesBatchingDims := [],
    startIndexMap := [0], indexVectorDim := 1, sliceSizes := ![1, C], wf := wf }

section
variable {α : Type} {N C B w : Nat}
variable (wf : GatherDims.WF ⟨2, ![N, C]⟩ ⟨2, ![B, 1]⟩ ⟨2, ![B, C]⟩ [1] [0] [] [0] [] 1 ![1, C])
variable (rows : IVec ⟨2, ![B, 1]⟩ w) (j : (⟨2, ![B, C]⟩ : Shape).Idx)

/-- The place of the row number that result index `j` reads: its own row of the column of row numbers. -/
abbrev rowAt {B C : Nat} (j : (⟨2, ![B, C]⟩ : Shape).Idx) : (⟨2, ![B, 1]⟩ : Shape).Idx :=
  ix2 ⟨(j 0).val, idx2_lt0 j⟩ ⟨0, Nat.one_pos⟩

/-- On the row axis the slice starts at the row number, read signed and held between 0 and the last row. -/
theorem start_row : (rowDims N C B wf).start j rows 0 = min (rows (rowAt j)).toInt.toNat (N - 1) := by
  have h0 : (0 : Fin 2) ∈ (rowDims N C B wf).startIndexMap := List.mem_singleton.mpr rfl
  have hsi : (rowDims N C B wf).siIdx j ⟨_, List.idxOf_lt_length_iff.2 h0⟩ = rowAt j := by
    funext b
    match b with
    | ⟨0, _⟩ => exact Fin.ext rfl
    | ⟨1, _⟩ => exact Fin.ext rfl
  unfold GatherDims.start
  rw [dif_pos h0, hsi]
  rfl

/-- Nothing is added on the row axis: it is collapsed. -/
theorem off_row : (rowDims N C B wf).offCoord j 0 = 0 :=
  GatherDims.offCoord_eq_zero _ _ _ fun h => ((GatherDims.mem_sKept _ _).mp h).1 (List.mem_singleton.mpr rfl)

/-- On the column axis the slice starts at 0: the row numbers say nothing of it. -/
theorem start_col : (rowDims N C B wf).start j rows 1 = 0 := by
  unfold GatherDims.start
  exact dif_neg (by simp)

/-- and the offset there is the result's own column. -/
theorem off_col : (rowDims N C B wf).offCoord j 1 = (j 1).val := by
  have h1 : (1 : Fin 2) ∈ (rowDims N C B wf).sKept := (GatherDims.mem_sKept _ _).mpr ⟨by simp, List.not_mem_nil⟩
  unfold GatherDims.offCoord
  rw [dif_pos h1]
  rfl

/-- A lookup in which result row `r` asks for table row `r` gives the first `B` rows of the table: at every index of
    the result whose row number is its own row, the gather is the table there. -/
theorem gather_own_row (x : (⟨2, ![N, C]⟩ : Shape).Idx → α) (i : (⟨2, ![N, C]⟩ : Shape).Idx)
    (h0 : (i 0).val = (j 0).val) (h1 : (i 1).val = (j 1).val) (hr : (rows (rowAt j)).toInt.toNat = (j 0).val) :
    Host.gather (rowDims N C B wf) x rows j = x i := by
  have hN : (i 0).val < N := idx2_lt0 i
  unfold Host.gather
  refine congrArg x (funext fun a => Fin.ext ?_)
  show (rowDims N C B wf).start j rows a + (rowDims N C B wf).batchCoord j a + (rowDims N C B wf).offCoord j a = _
  rw [GatherDims.batchCoord_eq_zero _ _ _ List.not_mem_nil]
  match a with
  | ⟨0, _⟩ =>
    show (rowDims N C B wf).start j rows 0 + 0 + (rowDims N C B wf).offCoord j 0 = (i 0).val
    rw [start_row, off_row, hr]
    omega
  | ⟨1, _⟩ =>
    show (rowDims N C B wf).start j rows 1 + 0 + (rowDims N C B wf).offCoord j 1 = (i 1).val
    rw [start_col, off_col]
    omega

end

end Cert.Proof.Take
-- ==== Proof.Take.Positions.lean ====
/- `jnp.take(table, jnp.arange(8192), axis=0)` of a table of 8192 rows is the table. The lookup adds 8192 to a negative
   row number, gathers, and puts a fill value where a row number lies outside of the table; of the positions 0 … 8191
   none is negative and none is outside, and position `r` asks for row `r`. -/
module

public import proofs.«01_k».proof.Proof.Take.Row
public import Idealize.ShloMosaic.Lib.ReduceAll
public import Idealize.ShloMosaic.Lib.WordCmp
public import Idealize.ShloMosaic.Lib.Pipeline.Value

@[expose] public section

namespace Cert.Proof.Take

open Idealize.ShloMosaic Idealize.ShloMosaic.ValueIdx

/-- The table's and the result's shape, the positions', the column of row numbers', one number's, and those of the
    one-element bound on the way to a column. -/
abbrev Table : Shape := ⟨2, ![8192, 1024]⟩
abbrev Pos : Shape := ⟨1, ![8192]⟩
abbrev Col : Shape := ⟨2, ![8192, 1]⟩
abbrev One : Shape := ⟨0, ![]⟩
abbrev Bound : Shape := ⟨1, ![1]⟩
abbrev Bound2 : Shape := ⟨2, ![1, 1]⟩

section
variable (hOP : One.BroadcastsInDim Pos ![]) (hPC : Pos.BroadcastsInDim Col ![0])

/-- The row numbers looked up: the positions, with 8192 added to the negative ones, as a column. -/
abbrev rowNumbers : IVec Col 32 :=
  broadcastInDim Col ![0] hPC
    (select (cmpi .slt (iotaInDim Pos 32 0) (broadcastInDim Pos ![] hOP (constantI One 32 0#32)))
      (addi (iotaInDim Pos 32 0) (broadcastInDim Pos ![] hOP (constantI One 32 8192#32))) (iotaInDim Pos 32 0))

/-- No position is negative, so the row number in row `r` of the column is the word of `r`. -/
theorem rowNumbers_at (i : Col.Idx) : rowNumbers hOP hPC i = BitVec.ofNat 32 (i 0).val := by
  have h : (i 0).val < 8192 := idx2_lt0 i
  show Scalar.select (IntOp.cmpi .slt (BitVec.ofNat 32 (i 0).val) (BitVec.ofNat 32 0)) _ (BitVec.ofNat 32 (i 0).val) = _
  rw [(WordCmp.cmpi_slt_ofNat_eq_zero_iff (by omega) (by omega)).mpr (Nat.not_lt_zero _)]
  rfl

variable (hOC : One.BroadcastsInDim Col ![]) (hB : Bound.BroadcastsInDim Bound2 ![1])
variable (hBC : Bound2.BroadcastsInDim Col ![0, 1]) (hred : Col.ReducesTo [1] Pos) (h1 : 0 < One.numel)

/-- Where the lookup finds a row: the row number is at least 0 and at most 8191. -/
abbrev found : IVec Pos 1 :=
  Host.reduce IntOp.andi
    (andi (cmpi .sge (rowNumbers hOP hPC) (broadcastInDim Col ![] hOC (constantI One 32 0#32)))
      (cmpi .sle (rowNumbers hOP hPC)
        (broadcastInDim Col ![0, 1] hBC (broadcastInDim Bound2 ![1] hB (constantI Bound 32 8191#32)))))
    (constantI One 1 1#1) hred h1

/-- Every position is found. -/
theorem found_at (p : Pos.Idx) : found hOP hPC hOC hB hBC hred h1 p = 1#1 := by
  refine Host.reduce_andi_one _ _ _ _ _ rfl fun i => ?_
  have h : (i 0).val < 8192 := idx2_lt0 i
  show IntOp.andi (IntOp.cmpi .sge (rowNumbers hOP hPC i) (BitVec.ofNat 32 0))
    (IntOp.cmpi .sle (rowNumbers hOP hPC i) (BitVec.ofNat 32 8191)) = 1#1
  rw [rowNumbers_at, (WordCmp.cmpi_sge_ofNat_eq_one_iff (by omega) (by omega)).mpr (Nat.zero_le _),
    (WordCmp.cmpi_sle_ofNat_eq_one_iff (by omega) (by omega)).mpr (by omega)]
  rfl

variable (hPT : Pos.BroadcastsInDim Table ![0])
variable (wf : GatherDims.WF Table Col Table [1] [0] [] [0] [] 1 ![1, 1024])

/-- The lookup of every position in order is the table itself, whatever the fill value. -/
theorem take_positions {α : Type} (table fill : Table.Idx → α) :
    select (broadcastInDim Table ![0] hPT (found hOP hPC hOC hB hBC hred h1))
      (Host.gather (rowDims 8192 1024 8192 wf) table (rowNumbers hOP hPC)) fill = table := by
  funext j
  have h : (j 0).val < 8192 := idx2_lt0 j
  rw [select_apply]
  unfold broadcastInDim
  rw [found_at, select_one]
  refine gather_own_row wf _ j table j rfl rfl ?_
  show (rowNumbers hOP hPC (rowAt j)).toInt.toNat = _
  rw [rowNumbers_at, WordCmp.toInt_ofNat_of_lt (show (j 0).val < 2 ^ (32 - 1) by omega)]
  rfl

end

end Cert.Proof.Take
-- ==== Proof.lean ====
module

public import proofs.«01_k».proof.Defs
public import proofs.«01_k».proof.Proof.Gen.Kernel.Value
public import proofs.«01_k».proof.Proof.Gen.KernelIdeal.Value
public import proofs.«01_k».proof.Proof.Gen.Reference.Run
public import proofs.«01_k».proof.Proof.Gen.ReferenceIdeal.Run
public import proofs.«01_k».proof.Proof.Take.Positions
public import Idealize.ShloMosaic.Adequacy
public import Idealize.ShloMosaic.Init
public import Idealize.ShloMosaic.Lib.Quiescent

@[expose] public section

noncomputable section

namespace Cert.Proof

open Idealize.ShloMosaic Idealize.SL.Sem

/-- The frame of the reference as printed: its run, which leaves the arguments; it declares no semaphore. -/
theorem frame_reference : quiescent_Reference := fun m ρ _ =>
  (θ_run Cert.Reference.defs _ _).mono (fun r h => ⟨fun c => (h c).2, sem_eq_zero_of_no_sems (by decide) r.2⟩)
    (Cert.Reference.Value.run (F := Bits) m ρ)

/-- The frame of the reference over the extended reals, likewise. -/
theorem frame_referenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals the kernel's result is the reference's: `x + table`, the lookup being the table. -/
theorem algebraic : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact congrArg (addf _) (Take.take_positions _ _ _ _ _ _ _ _ _ _ _)

/-- The same as words: the kernel adds the same two words at each index as the reference does. -/
theorem bitexact : bitexact_Kernel_Reference := by
  intro m ρ m' ρ' _ hagree
  refine ⟨_, Cert.Kernel.Value.run (F := Bits) m ρ, ?_⟩
  refine (θ_run Cert.Reference.defs _ _).mono (fun _ h c => ⟨(h c).1.trans ?_, (h c).2⟩)
    (Cert.Reference.Value.run (F := Bits) m' ρ')
  rw [(hagree c).1, (hagree c).2]
  exact congrArg (addf _) (Take.take_positions _ _ _ _ _ _ _ _ _ _ _)

/-- Everything the certificate claims. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    frame_reference, frame_referenceIdeal, (trivial : preserves_Kernel_KernelIdeal), algebraic, bitexact⟩

end Cert.Proof

end
